-- ==== Defs.lean ====
def Pre_Kernel (m : (ℓ : Loc Cert.Kernel.nD Cert.Kernel.τ Cert.Kernel.sig) → Buf (Elt Bits) ℓ) : Prop :=
  True

def Pre_Kernel_names_the_row [hPre_names_the_row : Cert.Pre_names_the_row.Facts] (m : (ℓ : Loc Cert.Kernel.nD Cert.Kernel.τ Cert.Kernel.sig) → Buf (Elt Bits) ℓ) : Prop :=
  ∀ c : Dev Cert.Kernel.nD,
    (Cert.Pre_names_the_row.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal (m : (ℓ : Loc Cert.KernelIdeal.nD Cert.KernelIdeal.τ Cert.KernelIdeal.sig) → Buf (Elt Ideal) ℓ) : Prop :=
  True

def Pre_KernelIdeal_names_the_row [hPre_names_the_row : Cert.Pre_names_the_row.Facts] (m : (ℓ : Loc Cert.KernelIdeal.nD Cert.KernelIdeal.τ Cert.KernelIdeal.sig) → Buf (Elt Ideal) ℓ) : Prop :=
  ∀ c : Dev Cert.KernelIdeal.nD,
    (Cert.Pre_names_the_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_Reference (m : (ℓ : Loc Cert.Reference.nD Cert.Reference.τ Cert.Reference.sig) → Buf (Elt Bits) ℓ) : Prop :=
  True

def Pre_Reference_names_the_row [hPre_names_the_row : Cert.Pre_names_the_row.Facts] (m : (ℓ : Loc Cert.Reference.nD Cert.Reference.τ Cert.Reference.sig) → Buf (Elt Bits) ℓ) : Prop :=
  ∀ c : Dev Cert.Reference.nD,
    (Cert.Pre_names_the_row.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_names_the_row [hPre_names_the_row : Cert.Pre_names_the_row.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_names_the_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_names_the_row [hKernel : Cert.Kernel.Facts] [hPre_names_the_row : Cert.Pre_names_the_row.Facts] : Prop :=
  ∀ (m : (ℓ : Loc Cert.Kernel.nD Cert.Kernel.τ Cert.Kernel.sig) → Buf (Elt Bits) ℓ) (g : Dev Cert.Kernel.nD → PrngReg), Pre_Kernel_names_the_row m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_names_the_row [hKernelIdeal : Cert.KernelIdeal.Facts] [hPre_names_the_row : Cert.Pre_names_the_row.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_names_the_row m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_names_the_row [hReference : Cert.Reference.Facts] [hPre_names_the_row : Cert.Pre_names_the_row.Facts] : Prop :=
  ∀ (m : (ℓ : Loc Cert.Reference.nD Cert.Reference.τ Cert.Reference.sig) → Buf (Elt Bits) ℓ) (g : Dev Cert.Reference.nD → PrngReg), Pre_Reference_names_the_row m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_names_the_row [hReferenceIdeal : Cert.ReferenceIdeal.Facts] [hPre_names_the_row : Cert.Pre_names_the_row.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_names_the_row m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_names_the_row [hKernelIdeal : Cert.KernelIdeal.Facts] [hReferenceIdeal : Cert.ReferenceIdeal.Facts] [hPre_names_the_row : Cert.Pre_names_the_row.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_names_the_row m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference_pre_names_the_row [hKernel : Cert.Kernel.Facts] [hReference : Cert.Reference.Facts] [hPre_names_the_row : Cert.Pre_names_the_row.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_names_the_row m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts) (hPre_names_the_row : Cert.Pre_names_the_row.Facts),
    quiescent_Kernel (hKernel := hKernel)
    ∧ quiescent_Kernel_pre_names_the_row (hKernel := hKernel) (hPre_names_the_row := hPre_names_the_row)
    ∧ quiescent_KernelIdeal (hKernelIdeal := hKernelIdeal)
    ∧ quiescent_KernelIdeal_pre_names_the_row (hKernelIdeal := hKernelIdeal) (hPre_names_the_row := hPre_names_the_row)
    ∧ quiescent_Reference (hReference := hReference)
    ∧ quiescent_Reference_pre_names_the_row (hReference := hReference) (hPre_names_the_row := hPre_names_the_row)
    ∧ quiescent_ReferenceIdeal (hReferenceIdeal := hReferenceIdeal)
    ∧ quiescent_ReferenceIdeal_pre_names_the_row (hReferenceIdeal := hReferenceIdeal) (hPre_names_the_row := hPre_names_the_row)
    ∧ preserves_Kernel_KernelIdeal
    ∧ algebraic_KernelIdeal_ReferenceIdeal_pre_names_the_row (hKernelIdeal := hKernelIdeal) (hReferenceIdeal := hReferenceIdeal) (hPre_names_the_row := hPre_names_the_row)
    ∧ bitexact_Kernel_Reference_pre_names_the_row (hKernel := hKernel) (hReference := hReference) (hPre_names_the_row := hPre_names_the_row)
-- ==== Pre_names_the_row.lean ====
abbrev S16384x200 : Shape := ⟨2, ![16384, 200]⟩
abbrev S1x128 : Shape := ⟨2, ![1, 128]⟩
abbrev S_ : Shape := ⟨0, ![]⟩

class Facts : Prop where
  bcast_S_S16384x200 : S_.BroadcastsInDim S16384x200 (![] : Fin 0 → Fin S16384x200.rank)

variable [Facts]

def fn {F : FTy → Type} [FloatOps F] (main_arg0 : IVec S16384x200 32) (main_arg1 : FVec F S1x128 .f32) : IVec S16384x200 1 :=
  let main_c : IVec S_ 32 := constantI S_ 32 4294967295#32
  let main_v0 : IVec S16384x200 32 := broadcastInDim S16384x200 ![] bcast_S_S16384x200 main_c
  let main_v1 : IVec S16384x200 1 := cmpi .sge main_arg0 main_v0
  let main_c_0 : IVec S_ 32 := constantI S_ 32 0#32
  let main_v2 : IVec S16384x200 32 := broadcastInDim S16384x200 ![] bcast_S_S16384x200 main_c_0
  let main_v3 : IVec S16384x200 1 := cmpi .sle main_arg0 main_v2
  let main_v4 : IVec S16384x200 1 := andi main_v1 main_v3
  main_v4
-- ==== Kernel.lean ====
abbrev S16384x200 : Shape := ⟨2, ![16384, 200]⟩
abbrev S1x128 : Shape := ⟨2, ![1, 128]⟩
abbrev S3276800x128 : Shape := ⟨2, ![3276800, 128]⟩
abbrev S32768x128 : Shape := ⟨2, ![32768, 128]⟩
abbrev S_ : Shape := ⟨0, ![]⟩
abbrev S16384x200x128 : Shape := ⟨3, ![16384, 200, 128]⟩

abbrev nBuf : Space → Nat
  | .hbm => 4
  | .vmem => 2
  | .smem => 0
  | _ => 0

abbrev bufTy : (tb : Table) → Fin (tcTables nBuf tb) → BufTy
  | .hbm, ⟨0, _⟩ => ⟨S16384x200, .i32⟩
  | .hbm, ⟨1, _⟩ => ⟨S1x128, .f32⟩
  | .hbm, ⟨2, _⟩ => ⟨S3276800x128, .f32⟩
  | .hbm, ⟨3, _⟩ => ⟨S16384x200x128, .f32⟩
  | .local _ .vmem, ⟨0, _⟩ => ⟨S1x128, .f32⟩
  | .local _ .vmem, ⟨1, _⟩ => ⟨S32768x128, .f32⟩
  | _, _ => ⟨S16384x200, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c100_i32 : BitVec 32 := 100#32
  let v6 : BitVec 32 := Scalar.addi c0_i32 c100_i32
  let c1_i32 : BitVec 32 := 1#32
  ⟨c0_i32, v6, c1_i32⟩
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c32768_i32 : BitVec 32 := 32768#32
  let v8 : BitVec 32 := Scalar.muli arg4 c32768_i32
  let c0_i32_7 : BitVec 32 := 0#32
  ![v8.toNat, 0]
@[reducible] def k0_t2_loop : Scf.Loop 32 :=
  let c0_i32_4 : BitVec 32 := 0#32
  let c100_i32_5 : BitVec 32 := 100#32
  let v7 : BitVec 32 := Scalar.addi c0_i32_4 c100_i32_5
  let c1_i32_6 : BitVec 32 := 1#32
  ⟨c0_i32_4, v7, c1_i32_6⟩
abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== Reference.lean ====
abbrev S16384x200 : Shape := ⟨2, ![16384, 200]⟩
abbrev S1x128 : Shape := ⟨2, ![1, 128]⟩
abbrev S_ : Shape := ⟨0, ![]⟩
abbrev S16384x200x1 : Shape := ⟨3, ![16384, 200, 1]⟩
abbrev S1 : Shape := ⟨1, ![1]⟩
abbrev S1x1x1 : Shape := ⟨3, ![1, 1, 1]⟩
abbrev S16384x200x128 : Shape := ⟨3, ![16384, 200, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S1x128, .f32⟩
  | .hbm, ⟨2, _⟩ => ⟨S_, .i32⟩
  | .hbm, ⟨3, _⟩ => ⟨S16384x200, .i32⟩
  | .hbm, ⟨4, _⟩ => ⟨S16384x200, .i1⟩
  | .hbm, ⟨5, _⟩ => ⟨S_, .i32⟩
  | .hbm, ⟨6, _⟩ => ⟨S16384x200, .i32⟩
  | .hbm, ⟨7, _⟩ => ⟨S16384x200, .i32⟩
  | .hbm, ⟨8, _⟩ => ⟨S16384x200, .i32⟩
  | .hbm, ⟨9, _⟩ => ⟨S16384x200x1, .i32⟩
  | .hbm, ⟨10, _⟩ => ⟨S1, .i32⟩
  | .hbm, ⟨11, _⟩ => ⟨S_, .i32⟩
  | .hbm, ⟨12, _⟩ => ⟨S16384x200x1, .i32⟩
  | .hbm, ⟨13, _⟩ => ⟨S16384x200x1, .i1⟩
  | .hbm, ⟨14, _⟩ => ⟨S1x1x1, .i32⟩
  | .hbm, ⟨15, _⟩ => ⟨S16384x200x1, .i32⟩
  | .hbm, ⟨16, _⟩ => ⟨S16384x200x1, .i1⟩
  | .hbm, ⟨17, _⟩ => ⟨S16384x200x1, .i1⟩
  | .hbm, ⟨18, _⟩ => ⟨S_, .i1⟩
  | .hbm, ⟨19, _⟩ => ⟨S16384x200, .i1⟩
  | .hbm, ⟨20, _⟩ => ⟨S16384x200x128, .f32⟩
  | .hbm, ⟨21, _⟩ => ⟨S16384x200x128, .i1⟩
  | .hbm, ⟨22, _⟩ => ⟨S_, .f32⟩
  | .hbm, ⟨23, _⟩ => ⟨S16384x200x128, .f32⟩
  | .hbm, ⟨24, _⟩ => ⟨S16384x200x128, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Kernel.Fill.lean ====
/-
  The pure side of the row broadcast: the block the kernel fills its VMEM buffer with, the 100 such blocks stacked into one
  array, and that array seen in the result's shape. All three hold the table's one row at every leading index.
-/
module

public import proofs.«01_k».proof.Proof.Gen.Kernel.Skeleton
public import Idealize.ShloMosaic.Lib.PointwiseCore

@[expose] public section

set_option maxRecDepth 16384

noncomputable section

namespace Cert.Kernel.Fill

open Cert.Kernel Cert.Kernel.Gen
open Idealize.ShloMosaic Idealize.ShloMosaic.TcCoe

variable {F : FTy → Type} [FloatOps F]

/-- The VMEM buffer once filled: every one of its 32768 rows is the table's row `w`. -/
def block (w : FVec F S1x128 .f32) : FVec F S32768x128 .f32 := fun y => w (ix2 0 (y 1))

/-- The array the transfers assemble: every one of its 3276800 rows is `w`. -/
def rows (w : FVec F S1x128 .f32) : FVec F S3276800x128 .f32 := fun y => w (ix2 0 (y 1))

/-- The kernel's result: `w` at each of the 16384 × 200 positions. -/
def lookup (w : FVec F S1x128 .f32) : FVec F S16384x200x128 .f32 := fun y => w (ix2 0 (y 2))

/-- What the body stores into its VMEM buffer is `block` of the row it loaded. -/
theorem pay_eq (w : FVec F S1x128 .f32) : k0_pay1 w = block w := by
  funext y
  pointwise [k0_pay1, block]

/-- The closing reshape splits the leading axis and keeps each row: `rows` becomes `lookup`. -/
theorem reshape_rows (w : FVec F S1x128 .f32) (h : S3276800x128.ShapeCasts S16384x200x128) :
    shapeCast S16384x200x128 (rows w) h = lookup w := by
  funext y
  pointwise [rows, lookup]

end Cert.Kernel.Fill

end
-- ==== Proof.KernelIdeal.Fill.lean ====
/-
  The pure side of the row broadcast: the block the kernel fills its VMEM buffer with, the 100 such blocks stacked into one
  array, and that array seen in the result's shape. All three hold the table's one row at every leading index.
-/
module

public import proofs.«01_k».proof.Proof.Gen.KernelIdeal.Skeleton
public import Idealize.ShloMosaic.Lib.PointwiseCore

@[expose] public section

set_option maxRecDepth 16384

noncomputable section

namespace Cert.KernelIdeal.Fill

open Cert.KernelIdeal Cert.KernelIdeal.Gen
open Idealize.ShloMosaic Idealize.ShloMosaic.TcCoe

variable {F : FTy → Type} [FloatOps F]

/-- The VMEM buffer once filled: every one of its 32768 rows is the table's row `w`. -/
def block (w : FVec F S1x128 .f32) : FVec F S32768x128 .f32 := fun y => w (ix2 0 (y 1))

/-- The array the transfers assemble: every one of its 3276800 rows is `w`. -/
def rows (w : FVec F S1x128 .f32) : FVec F S3276800x128 .f32 := fun y => w (ix2 0 (y 1))

/-- The kernel's result: `w` at each of the 16384 × 200 positions. -/
def lookup (w : FVec F S1x128 .f32) : FVec F S16384x200x128 .f32 := fun y => w (ix2 0 (y 2))

/-- What the body stores into its VMEM buffer is `block` of the row it loaded. -/
theorem pay_eq (w : FVec F S1x128 .f32) : k0_pay1 w = block w := by
  funext y
  pointwise [k0_pay1, block]

/-- The closing reshape splits the leading axis and keeps each row: `rows` becomes `lookup`. -/
theorem reshape_rows (w : FVec F S1x128 .f32) (h : S3276800x128.ShapeCasts S16384x200x128) :
    shapeCast S16384x200x128 (rows w) h = lookup w := by
  funext y
  pointwise [rows, lookup]

end Cert.KernelIdeal.Fill

end
-- ==== Proof.KernelIdeal.Blocks.lean ====
/-
  The 100 destination blocks of the kernel's transfers: block `k` is rows `32768 * k` to `32768 * k + 32767` of the array
  left in HBM. They are disjoint, together they are the whole array, and a transfer of the filled buffer leaves in its block
  what `Fill.rows` holds there.
-/
module

public import proofs.«01_k».proof.Proof.KernelIdeal.Fill
public import proofs.«01_k».proof.Proof.Gen.KernelIdeal.Launch
public import Idealize.ShloMosaic.Lib.Ring

@[expose] public section

set_option maxRecDepth 16384

noncomputable section

namespace Cert.KernelIdeal.Fill

open Cert.KernelIdeal Cert.KernelIdeal.Gen
open Idealize.ShloMosaic Idealize.ShloMosaic.TcCoe

variable {F : FTy → Type} [FloatOps F]

/-- The array in HBM that the transfers fill. -/
abbrev arr : Memref sig .tc .hbm S3276800x128 .f32 := Memref.whole main_v0
/-- The VMEM buffer they all read. -/
abbrev buf : Memref sig .tc .vmem S32768x128 .f32 := Memref.whole cc0_scratch0

/-- The number of transfers. -/
theorem trips_issue : k0_t1_loop.trips = 100 := by decide
/-- The number of waits. -/
theorem trips_drain : k0_t2_loop.trips = 100 := by decide

/-- Transfer `k`'s destination, as the kernel slices it. -/
def dst (k : Fin k0_t1_loop.trips) : Memref sig .tc .hbm S32768x128 .f32 :=
  arr.slice (Rect.unit (s := S3276800x128) (k0_off1 k) S32768x128.size (k0_off1_inb k)) (fun _ => rfl)

/-- Block `k`: the indices under transfer `k`'s destination. -/
abbrev blk (k : Fin k0_t1_loop.trips) : Finset S3276800x128.Idx :=
  (Rect.unit (s := S3276800x128) (k0_off1 k) S32768x128.size (k0_off1_inb k)).set

/-- The elements the `k`-th destination view names are the array's `k`-th block. -/
theorem dst_set (k : Fin k0_t1_loop.trips) : (dst k).view.set = blk k := by
  unfold dst; exact View.set_slice_whole _ _

/-- An index lies in block `k` exactly when its row does. -/
theorem mem_blk (k : Fin k0_t1_loop.trips) (y : S3276800x128.Idx) :
    y ∈ blk k ↔ 32768 * k.val ≤ (y 0).val ∧ (y 0).val < 32768 * k.val + 32768 := by
  rw [Rect.mem_set_unit, k0_off1_eq]
  have h1 : (y 1).val < 128 := (y 1).isLt
  constructor
  · intro H; exact H 0
  · intro H a
    fin_cases a
    · exact H
    · exact ⟨Nat.zero_le _, by show (y 1).val < 0 + 128; omega⟩

/-- Different transfers write disjoint blocks. -/
theorem blk_disjoint (k k' : Fin k0_t1_loop.trips) (h : k ≠ k') : Disjoint (blk k) (blk k') := by
  rw [Finset.disjoint_left]
  intro y hy hy'
  rw [mem_blk] at hy hy'
  exact h (Fin.ext (by omega))

/-- The blocks together are the whole array. -/
theorem blk_cover : Finset.univ.biUnion blk = Finset.univ := by
  ext y
  simp only [Finset.mem_biUnion, Finset.mem_univ, true_and, iff_true]
  have h0 : (y 0).val < 3276800 := (y 0).isLt
  refine ⟨⟨(y 0).val / 32768, by rw [trips_issue]; omega⟩, (mem_blk _ _).mpr ?_⟩
  show 32768 * ((y 0).val / 32768) ≤ (y 0).val ∧ (y 0).val < 32768 * ((y 0).val / 32768) + 32768
  omega

/-- Where element `x` of transfer `k`'s destination lies in the array. -/
def place (k : Fin k0_t1_loop.trips) (x : S32768x128.Idx) : S3276800x128.Idx := (dst k).view.emb x

/-- The column is kept. -/
theorem place_col (k : Fin k0_t1_loop.trips) (x : S32768x128.Idx) : (place k x 1).val = (x 1).val := by
  show k0_off1 k 1 + 1 * (x 1).val = (x 1).val
  rw [k0_off1_eq]
  show 0 + 1 * (x 1).val = (x 1).val
  omega

/-- Transfer `k` leaves in block `k` the rows of `rows w`, whatever the array held before. -/
theorem landed (w : FVec F S1x128 .f32) (k : Fin k0_t1_loop.trips) (fd : FVec F S3276800x128 .f32)
    (y : S3276800x128.Idx) (hy : y ∈ (dst k).view.set) :
    (dst k).view.write (Elt F) fd ((ReadAs.same (Val := Elt F)).apply (buf.view.read (Elt F) (block w))) Finset.univ y = rows w y := by
  obtain ⟨x, -, rfl⟩ := Finset.mem_map.mp hy
  refine (View.write_emb_of_mem (v := (dst k).view) (Val := Elt F) fd _ (Finset.mem_univ x)).trans ?_
  show block w x = rows w (place k x)
  unfold block rows
  congr 2
  exact Fin.ext (place_col k x).symm

end Cert.KernelIdeal.Fill

end
-- ==== Proof.KernelIdeal.Flight.lean ====
/-
  The two loops of the kernel. All 100 transfers read one VMEM buffer and complete on one DMA semaphore, so they are one
  batch: the issue loop gives transfer `k` its block of the array and one read share of the buffer, and the drain loop
  consumes one transfer's credit per trip, the last trip handing everything back at once.
-/
module

public import proofs.«01_k».proof.Proof.KernelIdeal.Blocks
public import Idealize.ShloMosaic.Lib.Batch
public import Idealize.ShloMosaic.Lib.Tactic
public import Idealize.ShloMosaic.Lib.Pipeline.FrameSuffixV

@[expose] public section

set_option maxRecDepth 16384

noncomputable section

namespace Cert.KernelIdeal.Fill

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The pipeline's resources beside the transfers' counters. -/
local notation "𝕄" => MT nD τ sig Unit (Elt F) ℕ (Pipeline.UD sig nD τ) ℕ

/-- The semaphore every transfer completes on. -/
abbrev done : DmaSem sig := cc0_scratch1.sem
/-- What one transfer credits it. -/
abbrev credit : ℕ := 524288

section Names

variable (c : Dev nD) (w : FVec F S1x128 .f32)

/-- The filled buffer, held for reading at share `q`. -/
abbrev filled (q : PosShare TreeShare) : sProp 𝕄 :=
  buf.view.loc (c : Thread nD τ) ↦[buf.view.set]{q} block w
/-- Block `k` of the array at the contents `f` of the whole array. -/
abbrev blockAt (f : FVec F S3276800x128 .f32) (k : Fin k0_t1_loop.trips) : sProp 𝕄 :=
  arr.view.loc (c : Thread nD τ) ↦[blk k]{fullShare} f

/-- What transfer `k` hands back: its block holding the row throughout, and its share of the buffer. -/
def delivery (k : Fin k0_t1_loop.trips) : sProp 𝕄 :=
  iprop(blockAt c (rows w) k ∗ filled c w (Transfers.shareTokN fullShare k.val))

/-- What a transfer delivers may be kept with its semaphore. -/
instance delivery_storable (k : Fin k0_t1_loop.trips) : BI.Storable (upEmb : UEmb _ 𝕄) (delivery c w k) := by
  unfold delivery blockAt filled; infer_instance

/-- The batch with `j` transfers issued and `u` units of credit consumed. -/
abbrev batch (j u : ℕ) : sProp 𝕄 :=
  Transfers.Batch (countersEmb (U := Pipeline.UD sig nD τ)) (c : Thread nD τ) (.dma done) () credit (delivery c w) j u

/-- The blocks from `k` on, at the contents `f` the array had at launch. -/
abbrev blocksFrom (f : FVec F S3276800x128 .f32) (k : ℕ) : sProp 𝕄 :=
  bigSep (Ring.rangeSet k0_t1_loop.trips k k0_t1_loop.trips) (blockAt c f)
/-- The read shares from number `k` on. -/
abbrev sharesFrom (k : ℕ) : sProp 𝕄 :=
  bigSep (Ring.rangeSet k0_t1_loop.trips k k0_t1_loop.trips) fun t => filled c w (Transfers.shareTokN fullShare t.val)

/-- Before trip `k` of the issue loop: `k` transfers in flight, the later ones' blocks and shares in hand. -/
def issueInv (f : FVec F S3276800x128 .f32) (k : ℕ) (_ : Unit) : sProp 𝕄 :=
  iprop(batch c w k 0 ∗ blocksFrom c f k ∗ sharesFrom c w k)

/-- Before trip `k` of the drain loop: `k` transfers' credit consumed, or, once the loop is over, the semaphore at zero
    and every delivery in hand. -/
def drainInv (k : ℕ) (_ : Unit) : sProp 𝕄 :=
  iprop((∃ W, owes (c : Thread nD τ) 0 W)
    ∗ if k < k0_t2_loop.trips then batch c w k0_t1_loop.trips (k * credit)
      else iprop(semVal ((c : Thread nD τ), SemLoc.dma done) 0 ∗ bigSep Finset.univ (delivery c w)))

end Names

/-- A transfer's credit. -/
theorem dst_amount (k : Fin k0_t1_loop.trips) : (dst k).view.amount (.dma done) = credit := by
  show (dst k).view.dmaCredit = credit; rfl

/-- The whole batch's credit. -/
theorem all_credit : credit * k0_t1_loop.trips = 52428800 := by decide

/-- What a transfer leaves in its block is the row throughout, and it returns the share it read through. -/
theorem lands (c : Dev nD) (w : FVec F S1x128 .f32) (f : FVec F S3276800x128 .f32) (k : Fin k0_t1_loop.trips) :
    iprop(((dst k).view.loc (c : Thread nD τ) ↦[blk k]{fullShare}
        (dst k).view.write (Elt F) f ((ReadAs.same (Val := Elt F)).apply (buf.view.read (Elt F) (block w))) Finset.univ)
      ∗ filled c w (Transfers.shareTokN fullShare k.val)) ⊢ (delivery c w k : sProp 𝕄) := by
  unfold delivery
  iintro ⟨Hd, Hs⟩
  isplitl [Hd]
  · iapply (Entails.of_eq (pointsTo_congr (ℓ := arr.view.loc (c : Thread nD τ)) (I := blk k) (q := fullShare)
      fun y hy => landed w k f y (by rw [dst_set]; exact hy))); iexact Hd
  · iexact Hs

/-- One trip of the issue loop: transfer `k` takes block `k` and share `k`, and what it will hand back is `delivery k`. -/
theorem issue_step (c : Dev nD) (w : FVec F S1x128 .f32) (f : FVec F S3276800x128 .f32)
    (arg0 : Memref sig .tc .vmem S1x128 .f32) (harg0 : arg0.IsWhole) (k : Fin k0_t1_loop.trips) (acc : Unit) :
    issueInv c w f k.val acc ⊢ wp frame (wpE (defs₀ (F := F)) Variants.none (c : Thread nD τ) none) Set.univ
      (k0_t1_body arg0 harg0 arr (Memref.isWhole_whole _) buf (Memref.isWhole_whole _) cc0_scratch1 k acc)
      (issueInv c w f (k.val + 1)) := by
  rw [show k0_t1_body (F := F) arg0 harg0 arr (Memref.isWhole_whole _) buf (Memref.isWhole_whole _) cc0_scratch1 k acc
    = .op (.enqueueDmaAs buf (.here (dst k)) .same (.dma done) (Memref.isWhole_whole cc0_scratch0).wordExact (View.wordExact_bits rfl)
        ⟨Or.inl rfl, trivial⟩) fun _ => .ret () from rfl]
  have hS : (dst k).view.set ⊆ blk k := Finset.subset_of_eq (dst_set k)
  have hD := lands c w f k
  unfold issueInv blocksFrom sharesFrom
  rw [Ring.bigSep_rangeSet_head (Φ := blockAt c f) k.isLt k.isLt,
    Ring.bigSep_rangeSet_head (Φ := fun t => filled c w (Transfers.shareTokN fullShare t.val)) k.isLt k.isLt]
  iintro ⟨HB, ⟨Hd, Hds⟩, ⟨Hs, Hss⟩⟩
  iapply (Transfers.wp_dmaBatch (countersEmb (U := Pipeline.UD sig nD τ)) Variants.none (c : Thread nD τ) none
    (src := buf) (via := ReadAs.same) (dst := dst k) (sm := .dma done) (D := delivery c w) (Sd := blk k)
    (fs := block w) (fd := f) (q := Transfers.shareTokN fullShare k.val) () credit (dst_amount k)
    hS k.isLt (Nat.zero_le _)
    (by
      refine BIBase.Entails.trans ?_ hD
      iintro ⟨H, K⟩
      isplitl [H]
      · iexact H
      · iexact K)) $$ [Hs Hd HB]
  · isplitl [Hs]; · iexact Hs
    isplitl [Hd]; · iexact Hd
    iexact HB
  iintro HB
  rw [wp_ret]
  imodintro
  isplitl [HB]; · iexact HB
  isplitl [Hds]; · iexact Hds
  iexact Hss

/-- The destination every wait of the drain loop names: block 0. -/
def waited : Memref sig .tc .hbm S32768x128 .f32 :=
  arr.slice (Rect.unit (s := S3276800x128) ![0, 0] S32768x128.size inb_S3276800x128_S32768x128_0_0) (fun _ => rfl)

/-- One trip of the drain loop. -/
theorem drain_step (c : Dev nD) (w : FVec F S1x128 .f32)
    (arg0 : Memref sig .tc .vmem S1x128 .f32) (harg0 : arg0.IsWhole) (k : Fin k0_t2_loop.trips) (acc : Unit) :
    drainInv c w k.val acc ⊢ wp frame (wpE (defs₀ (F := F)) Variants.none (c : Thread nD τ) none) Set.univ
      (k0_t2_body arg0 harg0 arr (Memref.isWhole_whole _) buf (Memref.isWhole_whole _) cc0_scratch1 k acc)
      (drainInv c w (k.val + 1)) := by
  rw [show k0_t2_body (F := F) arg0 harg0 arr (Memref.isWhole_whole _) buf (Memref.isWhole_whole _) cc0_scratch1 k acc
    = .op (.waitDma2 done buf waited (Memref.isWhole_whole cc0_scratch0).wordExact (View.wordExact_bits rfl)) fun _ => .ret () from rfl]
  have hk : k.val < 100 := by have := k.isLt; have := trips_drain; omega
  have hcred : waited.view.dmaCredit = credit := rfl
  unfold drainInv
  rw [if_pos k.isLt]
  iintro ⟨⟨%W, HO⟩, HB⟩
  by_cases hlast : k.val + 1 < k0_t2_loop.trips
  · rw [if_pos hlast]
    have h1 : k.val + 1 < 100 := by have := trips_drain; omega
    iapply (Transfers.wp_waitBatch (countersEmb (U := Pipeline.UD sig nD τ)) Variants.none (c : Thread nD τ) none
      (dstw := waited) (D := delivery c w) () hcred (u := k.val * credit)
      (lt_of_lt_of_eq (b := 52428800) (by show k.val * 524288 + 524288 < 52428800; omega) all_credit.symm)) $$ [HB HO]
    · isplitl [HB]; · iexact HB
      iexact HO
    iintro ⟨HB, HO⟩
    rw [wp_ret]
    imodintro
    isplitl [HO]; · iexists _; iexact HO
    rw [show (k.val + 1) * credit = k.val * credit + credit from Nat.succ_mul _ _]
    iexact HB
  · rw [if_neg hlast]
    have h1 : k.val + 1 = 100 := by have := trips_drain; omega
    iapply (Transfers.wp_waitBatchLast (countersEmb (U := Pipeline.UD sig nD τ)) Variants.none (c : Thread nD τ) none
      (dstw := waited) (D := delivery c w) () hcred (by decide) (u := k.val * credit)
      ((show k.val * 524288 + 524288 = 52428800 by omega).trans all_credit.symm)) $$ [HB HO]
    · isplitl [HB]; · iexact HB
      iexact HO
    iintro ⟨HD, Hsem, HO⟩
    rw [wp_ret]
    imodintro
    isplitl [HO]; · iexists _; iexact HO
    isplitl [Hsem]; · iexact Hsem
    iexact HD

end Cert.KernelIdeal.Fill

end
-- ==== Proof.KernelIdeal.Body.lean ====
/-
  The kernel's body, run from the weight row's staging buffer to the whole array: fill the VMEM buffer, issue the
  transfers, drain them, and put the blocks and the read shares back together.
-/
module

public import proofs.«01_k».proof.Proof.KernelIdeal.Flight
public import Idealize.ShloMosaic.Lib.VecWindow

@[expose] public section

set_option maxRecDepth 16384

noncomputable section

namespace Cert.KernelIdeal.Fill

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The pipeline's resources beside the transfers' counters. -/
local notation "𝕄" => MT nD τ sig Unit (Elt F) ℕ (Pipeline.UD sig nD τ) ℕ

variable (c : Dev nD) (w : FVec F S1x128 .f32)

/-- The whole array at the contents `f`. -/
abbrev wholeArr (f : FVec F S3276800x128 .f32) : sProp 𝕄 := arr.view.loc (c : Thread nD τ) ↦{fullShare} f

/-- The whole array is its hundred blocks. -/
theorem arr_blocks (f : FVec F S3276800x128 .f32) : wholeArr c f = (bigSep Finset.univ (blockAt c f) : sProp 𝕄) := by
  have hc : (Finset.univ.biUnion blk : Finset (Idx (arr.view.loc (c : Thread nD τ)))) = Finset.univ := by
    ext y
    have h := Finset.ext_iff.mp blk_cover y
    simp only [Finset.mem_biUnion, Finset.mem_univ, true_and, iff_true] at h ⊢
    exact h
  have h := Ring.pointsTo_blocks (Ix := Unit) (Val := Elt F) (Name := ℕ) (U := Pipeline.UD sig nD τ) (Lvl := ℕ)
    (ℓ := arr.view.loc (c : Thread nD τ)) blk blk_disjoint hc (q := fullShare) f
  exact h

/-- The hundred read shares by number are the shares of the transfers. -/
theorem shares_range : (sharesFrom c w 0 : sProp 𝕄)
    = bigSep (Finset.range k0_t1_loop.trips) fun t => filled c w (Transfers.shareTokN fullShare t) :=
  Ring.bigSep_rangeSet_eq_range (NB := k0_t1_loop.trips) (lo := 0) (hi := k0_t1_loop.trips)
    (Φ := fun t => filled c w (Transfers.shareTokN fullShare t.val)) le_rfl (fun t => filled c w (Transfers.shareTokN fullShare t))
    fun k hk => by show filled c w (Transfers.shareTokN fullShare k) = filled c w (Transfers.shareTokN fullShare (0 + k)); rw [Nat.zero_add]

/-- Every delivery together is the whole array holding the row throughout, and all the read shares. -/
theorem deliveries : (bigSep Finset.univ (delivery c w) : sProp 𝕄) = iprop(wholeArr c (rows w) ∗ sharesFrom c w 0) := by
  unfold delivery
  rw [arr_blocks]
  unfold sharesFrom
  rw [Ring.rangeSet_univ]
  exact BI.bigSep_sep _ _ _

/-- A store over the whole of a view leaves the stored vector. -/
theorem stored (v : View sig .tc .vmem S32768x128 .f32) (g : v.ty.Contents (Elt F)) (x : FVec F S32768x128 .f32) :
    v.read (Elt F) (v.writes (Elt F) g
      [⟨Rect.unit (s := S32768x128) ![0, 0] S32768x128.size inb_S32768x128_S32768x128_0_0, x⟩]) = x :=
  View.read_writes_full v g inb_S32768x128_S32768x128_0_0 x []

/-- What the body leaves: the row's buffer as it was, the VMEM buffer at the filled contents, the semaphore at zero, the array
    holding the row throughout, the waits recorded. -/
def left (arg0 : Memref sig .tc .vmem S1x128 .f32) : sProp 𝕄 :=
  iprop(owns (c : Thread nD τ) arg0 fullShare w ∗ filled c w fullShare ∗ semVal ((c : Thread nD τ), SemLoc.dma done) 0
    ∗ wholeArr c (rows w) ∗ ∃ W, owes (c : Thread nD τ) 0 W)

/-- The body's run: from the row `w` in its staging buffer, the VMEM buffer and the array at anything and the semaphore at
    zero, to `left`. -/
theorem body_run (arg0 : Memref sig .tc .vmem S1x128 .f32) (harg0 : arg0.IsWhole)
    (f : FVec F S3276800x128 .f32) (b : FVec F S32768x128 .f32) (W : Waits sig Unit) :
    iprop(owns (c : Thread nD τ) arg0 fullShare w ∗ (buf.view.loc (c : Thread nD τ) ↦[buf.view.set]{fullShare} b)
        ∗ semVal ((c : Thread nD τ), SemLoc.dma done) 0 ∗ wholeArr c f ∗ owes (c : Thread nD τ) 0 W)
      ⊢ wp frame (wpE (defs₀ (F := F)) Variants.none (c : Thread nD τ) none) Set.univ
          (cc0__dma_body arg0 harg0 arr (Memref.isWhole_whole _) buf (Memref.isWhole_whole _) cc0_scratch1) (fun _ => left c w arg0) := by
  rw [cc0__dma_body_eq_skeleton]
  unfold cc0__dma_body_skel
  unfold owns
  iintro ⟨⟨%f0, %h0, H0⟩, Hb, Hs, Ha, HO⟩
  imod (Transfers.batch_alloc' (Lvl := ℕ) (countersEmb (U := Pipeline.UD sig nD τ)) (c : Thread nD τ) () credit (delivery c w)
    (sm := .dma done) (E := Set.univ)) $$ Hs with HB
  sl_exec
  unfold body_run.sl.Hb_1
  have hfill : buf.view.writes (Elt F) buf.view.junk
      [⟨Rect.unit (s := S32768x128) ![0, 0] S32768x128.size inb_S32768x128_S32768x128_0_0,
        k0_pay1 (View.readAt (Elt F) arg0.view (Rect.unit (s := S1x128) ![0, 0] S1x128.size inb_S1x128_S1x128_0_0).toLoadRect f0)⟩]
      = block w := by
    rw [View.readAt_full, h0, pay_eq]
    have h := stored (F := F) buf.view buf.view.junk (block w)
    rw [View.read_whole] at h
    exact h
  rw [hfill]
  ihave Ha' := (Entails.of_eq (arr_blocks c f)) $$ Ha
  ihave Hb' := (Transfers.pointsTo_toks_range fullShare k0_t1_loop.trips).1 $$ Hb
  icases Hb' with ⟨Hrest, Ht⟩
  ihave Ht' := (Entails.of_eq (shares_range c w).symm) $$ Ht
  sl_for (issueInv c w f) $$ [HB Ha' Ht']
  · intro k acc; exact issue_step c w f arg0 harg0 k acc
  · unfold issueInv blocksFrom
    rw [Ring.rangeSet_univ]
    isplitl [HB]; · iexact HB
    isplitl [Ha']; · iexact Ha'
    iexact Ht'
  iintro %acc HL
  ihave HL' := (show issueInv c w f k0_t1_loop.trips acc ⊢ batch c w k0_t1_loop.trips 0 from by
    unfold issueInv; iintro ⟨HB, -, -⟩; iexact HB) $$ HL
  unfold body_run.sl.prog.cont_1
  sl_for (drainInv c w) $$ [HL' HO]
  · intro k acc; exact drain_step c w arg0 harg0 k acc
  · unfold drainInv
    rw [if_pos (by rw [trips_drain]; decide), Nat.zero_mul]
    isplitl [HO]; · iexists _; iexact HO
    iexact HL'
  iintro %acc2 HL
  ihave HL' := (show drainInv c w k0_t2_loop.trips acc2 ⊢ iprop((∃ W, owes (c : Thread nD τ) 0 W)
      ∗ semVal ((c : Thread nD τ), SemLoc.dma done) 0 ∗ bigSep Finset.univ (delivery c w)) from by
    unfold drainInv; rw [if_neg (Nat.lt_irrefl _)]) $$ HL
  icases HL' with ⟨HO, Hs, HD⟩
  ihave HD' := (Entails.of_eq (deliveries c w)) $$ HD
  icases HD' with ⟨Ha, Ht⟩
  sl_step
  unfold left owns
  isplitl [H0]
  · iexists _; isplitr; swap; · iexact H0
    ipureintro; exact h0
  isplitl [Hrest Ht]
  · iapply (Transfers.pointsTo_toks_range fullShare k0_t1_loop.trips).2
    isplitl [Hrest]; · iexact Hrest
    iapply (Entails.of_eq (shares_range c w)); iexact Ht
  isplitl [Hs]; · iexact Hs
  isplitl [Ha]; · iexact Ha
  iexact HO

end Cert.KernelIdeal.Fill

end
-- ==== Proof.KernelIdeal.Launch.lean ====
/-
  The whole program: the pipeline's one point runs the body over the array in HBM, and the host line after it reshapes
  that array to the result. At the end the result is the lookup, both arguments are as launched, and every semaphore is
  at zero.
-/
module

public import proofs.«01_k».proof.Proof.KernelIdeal.Body
public import proofs.«01_k».proof.Proof.Gen.KernelIdeal.Frame
public import Idealize.ShloMosaic.Lib.Pipeline.FrameSuffixV

@[expose] public section

set_option maxRecDepth 16384

noncomputable section

namespace Cert.KernelIdeal.Fill

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The pipeline's resources beside the transfers' counters. -/
local notation "𝕄" => MT nD τ sig Unit (Elt F) ℕ (Pipeline.UD sig nD τ) ℕ

variable (m : (ℓ : Loc nD τ sig) → Buf (Elt F) ℓ) (ρ : Dev nD → PrngReg)

/-- The weight row as launched. -/
abbrev weight (c : Dev nD) : FVec F S1x128 .f32 := m ((c : Thread nD τ).loc main_arg1)

/-- The one block of the weight is the weight. -/
theorem block_weight (c : Dev nD) (t : Fin cfg0.N) : iblk m c 0 t = weight m c := by
  funext y
  unfold iblk
  show m ((c : Thread nD τ).loc main_arg1) _ = m ((c : Thread nD τ).loc main_arg1) y
  congr 1
  funext a
  apply Fin.ext
  fin_cases a
  · show 0 * 1 + 1 * (y 0).val = (y 0).val; omega
  · show 0 * 128 + 1 * (y 1).val = (y 1).val; omega

/-- The semaphore the kernel owns. -/
def osem : Fin 1 → SemLoc sig := fun _ => .dma done
/-- It lies outside the semaphores of the pipeline itself. -/
theorem osem_facts : Pipeline.OwnSemFacts spec0 osem := by decide
/-- Owning that semaphore at zero, written out. -/
theorem osem_eq (c : Dev nD) :
    (Pipeline.ownSems0 (Ix := Unit) (Name := ℕ) (U := Pipeline.UD sig nD τ) (Lvl := ℕ) (Val := Elt F) (τ := τ) osem c : sProp 𝕄)
      = semVal ((c : Thread nD τ), SemLoc.dma done) 0 := by
  rw [Pipeline.ownSems0_eq_of_list c osem [0] (by decide) (by decide)]; rfl

/-- The array the transfers write. -/
def written : Finset (Ref sig .tc) := {main_v0}
/-- It is none of the pipeline's own arrays. -/
theorem written_rest : written ⊆ Pipeline.restRefs sig spec0 \ ∅ := by decide

/-- The buffers once the region is over: the array holds the row throughout. -/
def ended (c : Dev nD) : (b : Ref sig .tc) → Buf (Elt F) ((c.tc : Thread nD τ).loc b) :=
  Function.update (V m c) main_v0 (rows (weight m c))

/-- The array holds the row throughout. -/
theorem ended_arr (c : Dev nD) : ended m c main_v0 = rows (weight m c) := by
  unfold ended; exact Function.update_self _ _ _

/-- The VMEM buffer held by its own elements is the buffer held whole. -/
theorem buf_whole (c : Dev nD) (b : FVec F S32768x128 .f32) :
    (buf.view.loc (c : Thread nD τ) ↦[buf.view.set]{fullShare} b : sProp 𝕄)
      = ((c : Thread nD τ).loc cc0_scratch0) ↦{fullShare} b :=
  congrArg (fun S => (buf.view.loc (c : Thread nD τ) ↦[S]{fullShare} b : sProp 𝕄)) (View.set_whole cc0_scratch0)

/-- The point's invariant at array contents `X`: the VMEM buffer at anything, the semaphore at zero, the array at `X`. -/
theorem inv_eq (c : Dev nD) (G : (c : Dev nD) → (b : Ref sig .tc) → Buf (Elt F) ((c.tc : Thread nD τ).loc b)) :
    (Pipeline.ΦDRV osem spec0 ∅ written (V m) G c : sProp 𝕄)
      = iprop((∃ b : Buf (Elt F) ((c : Thread nD τ).loc cc0_scratch0), ((c : Thread nD τ).loc cc0_scratch0) ↦{fullShare} b)
        ∗ semVal ((c : Thread nD τ), SemLoc.dma done) 0 ∗ emp ∗ ((c : Thread nD τ).loc main_v0) ↦{fullShare} G c main_v0) := by
  unfold Pipeline.ΦDRV
  rw [scopedRest0_eq, osem_eq, BI.bigSep_empty, show written = {main_v0} from rfl, BI.bigSep_singleton]
  rfl

/-- The pipeline's proof data: the weight stays in its staging buffer, and the point takes the array from its launch contents
    to the row throughout. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ t := Pipeline.ΦDRV osem spec0 ∅ written (V m) (if t.val = 0 then V m else ended m) c
  q _ := fullShare
  owed _ := 0

/-- Before the point the weight's staging buffer holds the weight. -/
theorem before_eq (c : Dev nD) (t : Fin cfg0.N) (d) : (dats m 0 c).before 0 t d = weight m c :=
  (((dats m 0 c).before_in_eq_fetched 0 rfl (fun _ => rfl) (fun _ _ _ => rfl) (fun t => rfl) t d).trans
    (by unfold Dat.fetched Dat.blockOf; rfl)).trans (block_weight m c t)
/-- So it does after the point. -/
theorem after_eq (c : Dev nD) (t : Fin cfg0.N) : (dats m 0 c).after 0 t = weight m c := by
  dsimp only [dats]; exact block_weight m c t

/-- The staging buffer the point reads the weight from. -/
abbrev ms (t : Fin cfg0.N) : Memref sig .tc .vmem S1x128 .f32 := win0_0.stage (cfg0.slots t 0)

/-- What the point starts from. -/
def bodyPre (c : Dev nD) (t : Fin cfg0.N) : sProp 𝕄 :=
  iprop((dats m 0 c).Φ t.castSucc ∗ (dats m 0 c).owesAt () t.castSucc
    ∗ (∃ d, owns (c : Thread nD τ) (ms t) fullShare ((dats m 0 c).before 0 t d)))
/-- What the point ends with. -/
def bodyPost (c : Dev nD) (t : Fin cfg0.N) : sProp 𝕄 :=
  iprop((dats m 0 c).Φ t.succ ∗ (dats m 0 c).owesAt () t.succ
    ∗ owns (c : Thread nD τ) (ms t) fullShare ((dats m 0 c).after 0 t))

/-- The point run: from `bodyPre` the body ends in `bodyPost`. -/
theorem sound_body (c : Dev nD) (t : Fin cfg0.N) :
    bodyPre m c t ⊢ wp frame (wpE (defs₀ (F := F)) Variants.none c none) Set.univ (bodyAt0 t) (fun _ => bodyPost m c t) := by
  have ht : t.val = 0 := by have := t.isLt; have hN : cfg0.N = 1 := by decide
                            omega
  unfold bodyPre bodyPost bodyAt0
  rw [after_eq]
  simp only [before_eq]
  rw [show (dats m 0 c).Φ t.castSucc = Pipeline.ΦDRV osem spec0 ∅ written (V m) (V m) c by
      dsimp only [dats]; rw [if_pos (by simpa using ht)],
    show (dats m 0 c).Φ t.succ = Pipeline.ΦDRV osem spec0 ∅ written (V m) (ended m) c by
      dsimp only [dats]; rw [if_neg (by simp)], inv_eq, inv_eq]
  unfold Dat.owesAt Pipeline.owesWithin
  rw [show (dats m 0 c).owed t.castSucc = 0 from rfl, show (dats m 0 c).owed t.succ = 0 from rfl]
  have hpost : left c (weight m c) (ms t) ⊢ iprop(iprop((∃ b : Buf (Elt F) ((c : Thread nD τ).loc cc0_scratch0), ((c : Thread nD τ).loc cc0_scratch0) ↦{fullShare} b)
        ∗ semVal ((c : Thread nD τ), SemLoc.dma done) 0 ∗ emp ∗ ((c : Thread nD τ).loc main_v0) ↦{fullShare} ended m c main_v0)
      ∗ (∃ W : Waits sig Unit, ⌜↑W ⊆ (dats m 0 c).bound () t.succ⌝ ∗ owes (c : Thread nD τ) 0 W)
      ∗ owns (c : Thread nD τ) (ms t) fullShare (weight m c)) := by
    unfold left
    iintro ⟨H0, Hb, Hs, Ha, ⟨%W, HO⟩⟩
    isplitl [Hb Hs Ha]
    · isplitl [Hb]
      · iexists _; iapply (Entails.of_eq (buf_whole c (block (weight m c)))); iexact Hb
      isplitl [Hs]; · iexact Hs
      isplitr; · iempintro
      rw [ended_arr]; iexact Ha
    isplitl [HO]
    · iexists W; isplitr; · ipureintro; exact fun _ _ => Or.inl trivial
      iexact HO
    iexact H0
  iintro ⟨⟨⟨%b, Hb⟩, Hs, -, Ha⟩, ⟨%W, -, HW⟩, ⟨%d0, H0⟩⟩
  iapply (BIBase.Entails.trans (body_run c (weight m c) (ms t) (show (ms t).IsWhole from hstage0_0 0) (V m c main_v0) b W)
    (wp_mono _ _ _ fun _ => hpost)) $$ [Hb Hs Ha HW H0]
  isplitl [H0]; · iexact H0
  isplitl [Hb]; · iapply (Entails.of_eq (buf_whole c b).symm); iexact Hb
  isplitl [Hs]; · iexact Hs
  isplitl [Ha]; · iexact Ha
  iexact HW

/-- The pipeline's call of the body at a point, named. -/
theorem defs₀_row (t : Fin cfg0.N) :
    defs₀ (F := F) .tc cfg0.body (cfg0.bodyArgs t (cfg0.slots t)) = bodyAt0 t := by
  unfold defs₀; rw [Defs.onTc_tc]

/-- The body meets what the pipeline asks of a point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 800000 in
/-- The program is its one region continued by the reshape. -/
theorem main_around : Pipeline.HMainK (Ix := Unit) (Name := ℕ) (U := Pipeline.UD sig nD τ) (Lvl := ℕ) cfgs 0 defs₀ Variants.none m (main (F := F))
      (V m) (fun _ => Pipeline.chain ([hostOps1].map StableHlo.seq)) :=
  Pipeline.hmain_around cfgs 0 defs₀ Variants.none m main [] [hostOps1] (by simp only [List.Forall])
    (by simp only [List.Forall]) main_chain

/-- What the program ends with: the lookup, the arguments unchanged, the semaphores at zero. -/
def Ends (r : PUnit × MemSt nD τ sig (Elt F)) : Prop :=
  (∀ c : Dev nD, r.2.mem ((c.tc : Thread nD τ).loc main_v1) = lookup (weight m c)
    ∧ r.2.mem ((c.tc : Thread nD τ).loc main_arg0) = m ((c.tc : Thread nD τ).loc main_arg0)
    ∧ r.2.mem ((c.tc : Thread nD τ).loc main_arg1) = m ((c.tc : Thread nD τ).loc main_arg1))
  ∧ r.2.sem = fun _ => 0

/-- The buffers the reshape starts from. -/
abbrev atReshape (c : Dev nD) : Valuation τ sig (Elt F) :=
  Pipeline.withArrays spec0 c (Pipeline.withR (V0 m c) written c (ended m c)) fun w => (dats m 0 c).arrAt w cfg0.N

/-- After the reshape the result is the lookup. -/
theorem v1_ends (c : Dev nD) :
    StableHlo.after (List.flatten [hostOps1]) (atReshape m c) (Proc.devRef .tc main_v1) = lookup (weight m c) := by
  show StableHlo.after [StableHlo.reshape main_v0 main_v1 (rfl : (.f32 : EltTy) = .f32) shapeCasts_S3276800x128_S16384x200x128]
    (atReshape m c) (Proc.devRef .tc main_v1) = lookup (weight m c)
  have h0 : atReshape m c (Proc.devRef .tc main_v0) = rows (weight m c) :=
    (Pipeline.withArrays_of_ne _ c _ _ main_v0 (by exact (by decide : ∀ w, Pipeline.arrRef spec0 w ≠ main_v0))).trans
      ((Pipeline.withR_of_mem (V0 m c) written c (ended m c) main_v0 (by decide)).trans (ended_arr m c))
  rw [StableHlo.after_cons, StableHlo.after_nil, StableHlo.reshape_result', h0]
  exact reshape_rows _ _

/-- The reshape leaves the indices as launched. -/
theorem arg0_ends (c : Dev nD) :
    StableHlo.after (List.flatten [hostOps1]) (atReshape m c) (Proc.devRef .tc main_arg0) = m ((c : Thread nD τ).loc main_arg0) := by
  rw [StableHlo.after_of_forall_not_mem (b := Proc.devRef .tc main_arg0) _ _ (List.forall_iff_forall_mem.mp (by
      simp only [hostOps1, List.flatten_cons, List.flatten_nil, List.append_nil, List.Forall, StableHlo.reshape_writes,
        Finset.mem_singleton]
      exact StableHlo.devRef_ne_of_ne (by decide)))]
  exact (Pipeline.withArrays_of_ne _ c _ _ main_arg0 (by exact (by decide : ∀ w, Pipeline.arrRef spec0 w ≠ main_arg0))).trans
    ((Pipeline.withR_of_not_mem (V0 m c) written c (ended m c) main_arg0 (by decide)).trans (V_main_arg0 m c))

set_option backward.isDefEq.respectTransparency.types false in
/-- Every run of the program ends so. -/
theorem run : θ_run defs (onTc (τ := τ) (main (F := F))) (s₀ m ρ) (Ends m) :=
  Pipeline.θ_run_frame_dmaR_aroundV cfgs (dats m) (0 : Fin 1) launch0 osem defs₀ Variants.none osem_facts ∅ written
    (Finset.empty_subset _) written_rest m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := ended m) (hmain := main_around m) (hA := fun _ _ => rfl)
    (hin := fun _ => .rfl) (hout := fun _ => .rfl) (Q' := Ends m)
    (hQ' := fun r h => ⟨fun c =>
      ⟨((h.1 c).2 main_v1 (Pipeline.mem_restRefs_of main_v1 (by decide) (by decide))).trans (v1_ends m c),
        ((h.1 c).2 main_arg0 (Pipeline.mem_restRefs_of main_arg0 (by decide) (by decide))).trans (arg0_ends m c),
        ((h.1 c).1 0).trans ((dats m 0 c).arrAt_in 0 rfl _)⟩, h.2⟩)

end Cert.KernelIdeal.Fill

end
-- ==== Proof.ReferenceIdeal.Take.lean ====
/-
  The pure side of the reference: the table lookup as printed (an index below zero counted from the end, the row gathered,
  NaN where the index names no row) is the table's one row at every position, once every index is -1 or 0.
-/
module

public import proofs.«01_k».proof.Proof.Gen.ReferenceIdeal
public import proofs.«01_k».proof.Proof.Gen.Pre_names_the_row
public import Idealize.ShloMosaic.Lib.PointwiseCore
public import Idealize.ShloMosaic.Lib.ReduceAll

@[expose] public section

set_option maxRecDepth 16384

noncomputable section

namespace Cert.ReferenceIdeal.Take

open Cert.ReferenceIdeal Cert.ReferenceIdeal.Gen
open Idealize.ShloMosaic

variable {F : FTy → Type} [FloatOps F]

/-- One table row at each of the 16384 × 200 positions. -/
def lookup (w : FVec F S1x128 .f32) : FVec F S16384x200x128 .f32 := fun y => w (ix2 0 (y 2))

/-- The row number an index names: the index itself, or one more where it is negative. -/
def rowOf (x : IVec S16384x200 32) : IVec S16384x200x1 32 :=
  broadcastInDim S16384x200x1 ![0, 1] bcast_S16384x200_S16384x200x1_0_1
    (select (cmpi .slt x (broadcastInDim S16384x200 ![] bcast_S_S16384x200 (constantI S_ 32 0#32)))
      (addi x (broadcastInDim S16384x200 ![] bcast_S_S16384x200 (constantI S_ 32 1#32))) x)

/-- Where the row number lies in the table: at least 0 and at most 0. -/
def inTable (r : IVec S16384x200x1 32) : IVec S16384x200x1 1 :=
  andi (cmpi .sge r (broadcastInDim S16384x200x1 ![] bcast_S_S16384x200x1 (constantI S_ 32 0#32)))
    (cmpi .sle r (broadcastInDim S16384x200x1 ![0, 1, 2] bcast_S1x1x1_S16384x200x1_0_1_2
      (broadcastInDim S1x1x1 ![2] bcast_S1_S1x1x1_2 (constantI S1 32 0#32))))

/-- On one word: an index that is at least -1 and at most 0 names row 0. -/
theorem row_word (v : BitVec 32) (h : IntOp.andi (IntOp.cmpi .sge v 4294967295#32) (IntOp.cmpi .sle v 0#32) = 1#1) :
    Scalar.select (IntOp.cmpi .slt v 0#32) (IntOp.addi v 1#32) v = 0#32 := by
  have hv : v = 4294967295#32 ∨ v = 0#32 := by
    have h' : (4294967295#32 : BitVec 32).sle v = true ∧ v.sle 0#32 = true := by
      revert h
      simp only [IntOp.andi, IntOp.cmpi]
      cases (4294967295#32 : BitVec 32).sle v <;> cases v.sle 0#32 <;> decide
    rw [BitVec.sle_iff_toInt_le, BitVec.sle_iff_toInt_le] at h'
    have e1 : (4294967295#32 : BitVec 32).toInt = -1 := by decide
    have e0 : (0#32 : BitVec 32).toInt = 0 := by decide
    rw [e1, e0] at h'
    rcases (by omega : v.toInt = -1 ∨ v.toInt = 0) with hm | hz
    · exact Or.inl (BitVec.eq_of_toInt_eq (hm.trans e1.symm))
    · exact Or.inr (BitVec.eq_of_toInt_eq (hz.trans e0.symm))
  rcases hv with rfl | rfl <;> decide

/-- Under the precondition every index names row 0. -/
theorem rowOf_eq (x : IVec S16384x200 32) (w : FVec F S1x128 .f32)
    (h : Cert.Pre_names_the_row.fn x w = fun _ => 1#1) : rowOf x = fun _ => 0#32 := by
  funext y
  exact row_word _ (congrFun h _)

/-- Row 0 lies in the table, so no position is masked. -/
theorem inTable_zero : inTable (fun _ => 0#32) = fun _ => 1#1 := by
  funext y
  show IntOp.andi (IntOp.cmpi .sge 0#32 0#32) (IntOp.cmpi .sle 0#32 0#32) = 1#1
  decide

/-- The gather reads the one row of the table, whatever the start indices: a start is clamped into the table. -/
theorem gather_eq (w : FVec F S1x128 .f32) (r : IVec S16384x200x1 32) :
    Host.gather gather_S1x128_S16384x200x1_S16384x200x128_2_0_n_n_0_2_1128 w r = lookup w := by
  funext y
  show w (GatherDims.operandIdx _ y r) = w (ix2 0 (y 2))
  congr 1
  funext a
  match a with
  | ⟨0, _⟩ => exact Subsingleton.elim (α := Fin 1) _ _
  | ⟨1, _⟩ =>
    refine Fin.ext ?_
    show GatherDims.start _ y r 1 + GatherDims.batchCoord _ y 1 + GatherDims.offCoord _ y 1 = (y 2).val
    have hs : GatherDims.start gather_S1x128_S16384x200x1_S16384x200x128_2_0_n_n_0_2_1128 y r 1 = 0 := by
      unfold GatherDims.start
      exact dif_neg (by decide)
    rw [hs, GatherDims.batchCoord_eq_zero _ _ _ (by decide)]
    simp only [Nat.zero_add]
    unfold GatherDims.offCoord
    rw [dif_pos (by decide)]
    rfl

/-- The reference's whole result, masked as printed, is the table's row at every position. -/
theorem result_eq (x : IVec S16384x200 32) (w : FVec F S1x128 .f32)
    (h : Cert.Pre_names_the_row.fn x w = fun _ => 1#1) :
    select (broadcastInDim S16384x200x128 ![0, 1] bcast_S16384x200_S16384x200x128_0_1
        (Host.reduce IntOp.andi (inTable (rowOf x)) (constantI S_ 1 1#1) reducesTo_S16384x200x1_S16384x200_d2 h_S_))
      (Host.gather gather_S1x128_S16384x200x1_S16384x200x128_2_0_n_n_0_2_1128 w (rowOf x))
      (broadcastInDim S16384x200x128 ![] bcast_S_S16384x200x128 (constant S_ .f32 0x7FC00000#32))
    = lookup w := by
  rw [rowOf_eq x w h, inTable_zero, gather_eq]
  have hmask : Host.reduce IntOp.andi (fun _ : S16384x200x1.Idx => 1#1) (constantI S_ 1 1#1)
      reducesTo_S16384x200x1_S16384x200_d2 h_S_ = fun _ => 1#1 := by
    funext j
    exact Host.reduce_andi_one _ _ _ _ j rfl fun _ => rfl
  rw [hmask]
  funext y
  rfl

end Cert.ReferenceIdeal.Take

end
-- ==== Proof.ReferenceIdeal.Run.lean ====
/-
  The reference's run: every execution ends, with the table's one row at every position of the result wherever each index
  is -1 or 0, both arguments unchanged, and every counter at zero.
-/
module

public import proofs.«01_k».proof.Proof.ReferenceIdeal.Take
public import proofs.«01_k».proof.Proof.Gen.ReferenceIdeal.Run
public import Idealize.ShloMosaic.Lib.Quiescent

@[expose] public section

noncomputable section

namespace Cert.ReferenceIdeal.Take

open Cert.ReferenceIdeal Cert.ReferenceIdeal.Gen
open Idealize.ShloMosaic Idealize.ShloMosaic.TcCoe Idealize.SL.Sem

variable {F : FTy → Type} [FloatOps F]

/-- The arguments end as they began and, as the reference declares no semaphore, every counter is zero. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩) (Value.run m ρ)

/-- Where every index is -1 or 0 the result ends as the table's row at every position, the arguments as they began. -/
theorem run (m : (ℓ : Loc nD τ sig) → Buf (Elt F) ℓ) (ρ : Dev nD → PrngReg)
    (hpre : ∀ c : Dev nD, Cert.Pre_names_the_row.fn (F := F) (m ((c.tc : Thread nD τ).loc main_arg0))
      (m ((c.tc : Thread nD τ).loc main_arg1)) = fun _ => 1#1) :
    θ_run defs (onTc (τ := τ) (main (F := F))) ⟨m, fun _ => 0, ρ⟩ fun r => ∀ c : Dev nD,
      r.2.mem ((c.tc : Thread nD τ).loc main_v0) = lookup (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_eq _ _ (hpre c)), (h c).2⟩) (Value.run m ρ)

end Cert.ReferenceIdeal.Take

end
-- ==== Proof.lean ====
/-
  The certificate: the kernel's and the reference's runs, each at the machine's words and at the extended reals, put
  together into the claims. The kernel's run is `Cert.Kernel.Fill.run`, the reference's `Cert.Reference.Take.run`; both
  results are the table's one row at every position.
-/
module

public import proofs.«01_k».proof.Defs
public import proofs.«01_k».proof.Proof.Kernel.Launch
public import proofs.«01_k».proof.Proof.KernelIdeal.Launch
public import proofs.«01_k».proof.Proof.Reference.Run
public import proofs.«01_k».proof.Proof.ReferenceIdeal.Run

@[expose] public section

noncomputable section

namespace Cert.Proof

open Idealize.ShloMosaic Idealize.SL.Sem

/-- The kernel ends with its arguments unchanged and every semaphore at zero, from any memory. -/
theorem kernel_frame : Cert.quiescent_Kernel := fun m g _ =>
  (θ_run Cert.Kernel.defs _ _).mono (fun _ h => ⟨fun c => (h.1 c).2, h.2⟩) (Cert.Kernel.Fill.run (F := Bits) m g)

/-- The same of the kernel over the extended reals. -/
theorem kernelIdeal_frame : Cert.quiescent_KernelIdeal := fun m g _ =>
  (θ_run Cert.KernelIdeal.defs _ _).mono (fun _ h => ⟨fun c => (h.1 c).2, h.2⟩) (Cert.KernelIdeal.Fill.run (F := Ideal) m g)

/-- The reference ends with its arguments unchanged and every semaphore at zero, from any memory. -/
theorem reference_frame : Cert.quiescent_Reference := fun m g _ => Cert.Reference.Take.frame (F := Bits) m g

/-- The same of the reference over the extended reals. -/
theorem referenceIdeal_frame : Cert.quiescent_ReferenceIdeal := fun m g _ => Cert.ReferenceIdeal.Take.frame (F := Ideal) m g

/-- Over the extended reals, where every index names the table's row, kernel and reference end with the same result: that
    row at every position. -/
theorem algebraic : Cert.algebraic_KernelIdeal_ReferenceIdeal_pre_names_the_row := by
  intro m g m' g' hpre hargs
  refine ⟨fun c => Cert.KernelIdeal.Fill.lookup (Cert.KernelIdeal.Fill.weight m c), ?_, ?_⟩
  · exact (θ_run Cert.KernelIdeal.defs _ _).mono (fun _ h => h.1) (Cert.KernelIdeal.Fill.run (F := Ideal) m g)
  · refine (θ_run Cert.ReferenceIdeal.defs _ _).mono (fun _ h c => ⟨(h c).1.trans ?_, (h c).2⟩)
      (Cert.ReferenceIdeal.Take.run (F := Ideal) m' g' fun c => ?_)
    · rw [(hargs c).1, (hargs c).2]; exact hpre c
    · exact congrArg (Cert.ReferenceIdeal.Take.lookup (F := Ideal)) (hargs c).2

/-- On the machine's words, where every index names the table's row, kernel and reference end with the same result, bit
    for bit: that row at every position. -/
theorem bitexact : Cert.bitexact_Kernel_Reference_pre_names_the_row := by
  intro m g m' g' hpre hargs
  refine ⟨fun c => Cert.Kernel.Fill.lookup (Cert.Kernel.Fill.weight m c), ?_, ?_⟩
  · exact (θ_run Cert.Kernel.defs _ _).mono (fun _ h => h.1) (Cert.Kernel.Fill.run (F := Bits) m g)
  · refine (θ_run Cert.Reference.defs _ _).mono (fun _ h c => ⟨(h c).1.trans ?_, (h c).2⟩)
      (Cert.Reference.Take.run (F := Bits) m' g' fun c => ?_)
    · rw [(hargs c).1, (hargs c).2]; exact hpre c
    · exact congrArg (Cert.Reference.Take.lookup (F := Bits)) (hargs c).2

/-- Everything the certificate claims. The frames under the precondition are the frames without it. -/
theorem claim : Cert.Claim :=
  ⟨inferInstance, inferInstance, inferInstance, inferInstance, inferInstance,
    kernel_frame, fun m g _ => kernel_frame m g trivial,
    kernelIdeal_frame, fun m g _ => kernelIdeal_frame m g trivial,
    reference_frame, fun m g _ => reference_frame m g trivial,
    referenceIdeal_frame, fun m g _ => referenceIdeal_frame m g trivial,
    trivial, algebraic, bitexact⟩

end Cert.Proof

end
